-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_positive [hPre_gamma_positive : Cert.Pre_gamma_positive.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_positive [hPre_gamma_positive : Cert.Pre_gamma_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gamma_positive [hKernelIdeal : Cert.KernelIdeal.Facts] [hPre_gamma_positive : Cert.Pre_gamma_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gamma_positive [hReferenceIdeal : Cert.ReferenceIdeal.Facts] [hPre_gamma_positive : Cert.Pre_gamma_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_gamma_positive [hKernelIdeal : Cert.KernelIdeal.Facts] [hReferenceIdeal : Cert.ReferenceIdeal.Facts] [hPre_gamma_positive : Cert.Pre_gamma_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gamma_positive : Cert.Pre_gamma_positive.Facts),
    quiescent_Kernel (hKernel := hKernel)
    ∧ quiescent_KernelIdeal (hKernelIdeal := hKernelIdeal)
    ∧ quiescent_KernelIdeal_pre_gamma_positive (hKernelIdeal := hKernelIdeal) (hPre_gamma_positive := hPre_gamma_positive)
    ∧ quiescent_ReferenceIdeal (hReferenceIdeal := hReferenceIdeal)
    ∧ quiescent_ReferenceIdeal_pre_gamma_positive (hReferenceIdeal := hReferenceIdeal) (hPre_gamma_positive := hPre_gamma_positive)
    ∧ preserves_Kernel_KernelIdeal
    ∧ algebraic_KernelIdeal_ReferenceIdeal_pre_gamma_positive (hKernelIdeal := hKernelIdeal) (hReferenceIdeal := hReferenceIdeal) (hPre_gamma_positive := hPre_gamma_positive)
-- ==== Pre_gamma_positive.lean ====
abbrev S4096x4096 : Shape := ⟨2, ![4096, 4096]⟩
abbrev S_ : Shape := ⟨0, ![]⟩

class Facts : Prop where

variable [Facts]

def fn {F : FTy → Type} [FloatOps F] (main_arg0 : FVec F S4096x4096 .f32) (main_arg1 : FVec F S4096x4096 .f32) (main_arg2 : FVec F S_ .f32) : IVec S_ 1 :=
  let main_cst : FVec F S_ .f32 := constant S_ .f32 0xFF800000#32
  let main_v0 : IVec S_ 1 := cmpf .ogt main_arg2 main_cst
  main_v0
-- ==== Kernel.lean ====
abbrev S4096x4096 : Shape := ⟨2, ![4096, 4096]⟩
abbrev S_ : Shape := ⟨0, ![]⟩
abbrev S1x1 : Shape := ⟨2, ![1, 1]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩

abbrev nBuf : Space → Nat
  | .hbm => 5
  | .vmem => 7
  | .smem => 4
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S1x1, .f32⟩
  | .hbm, ⟨4, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S4096x4096, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_scratch1 : Ref sig .tc := ⟨.smem, 1, rfl⟩
abbrev cc0_scratch2 : Ref sig .tc := ⟨.smem, 2, rfl⟩
abbrev cc0_scratch3 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v9 : BitVec 32 := Scalar.muli arg0 c256_i32
  let v10 : Index := Scalar.indexCast v9
  let c0_5 : Index := 0#32
  ![v10.toNat, 0]
def k0_cond4 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def k0_off2 (i : grid0.Coords) : Fin 2 → Nat :=
  let arg0 : BitVec 32 := BitVec.ofNat 32 (i 0).val
  let c16_i32_2 : BitVec 32 := 16#32
  let v6 : BitVec 32 := Scalar.subi arg0 c16_i32_2
  let c256_i32 : BitVec 32 := 256#32
  let v25 : BitVec 32 := Scalar.muli v6 c256_i32
  let v26 : Index := Scalar.indexCast v25
  let c0_15 : Index := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x4096 : Shape := ⟨2, ![4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_cst_5 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.Cases.lean ====
/- When each branch of the mask kernel's body is taken, and the buffers the body works on.
   The grid has 32 points: the first 16 read the matrix block by block, the last 16 write the result. -/
module

public import proofs.«01_k».proof.Proof.Gen.KernelIdeal.Frame
public import proofs.«01_k».proof.Proof.Gen.KernelIdeal.Skeleton
public import Idealize.ShloMosaic.Lib.WritesUnit
public import Idealize.ShloMosaic.Lib.VecWindow
public import Idealize.ShloMosaic.Lib.ValueIdx

@[expose] public section

set_option maxRecDepth 16384

noncomputable section

namespace Cert.KernelIdeal.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal.Gen

variable {F : FTy → Type} [FloatOps F]

local notation "𝕄" => MT nD τ sig Unit (Elt F) ℕ (UR sig nD τ) ℕ

/-- A point of the grid is one of 32. -/
theorem point_lt (t : Fin cfg0.N) : t.val < 32 := lt_of_lt_of_eq t.isLt N_0

/-- The grid's one coordinate is the point's number. -/
theorem coord_eq (t : Fin cfg0.N) : ((grid0.coords t) 0).val = t.val := by
  have e : ((grid0.coords t) 0).val = t.val / 1 % 32 := Pipeline.Grid.coords_val t 0 (by decide) rfl
  have := point_lt t
  omega

/-- The first branch: the point reads a block. -/
abbrev Reads (i : grid0.Coords) : Prop := k0_cond1 i = 1#1
/-- The second branch: the point is the first one. -/
abbrev Starts (i : grid0.Coords) : Prop :=
  Scalar.cmpi .ne (Scalar.extui (Scalar.cmpi .eq (BitVec.ofNat 32 (i 0).val) 0#32)) 0#32 = 1#1
/-- The third branch: the point is not the first one. -/
abbrev Continues (i : grid0.Coords) : Prop :=
  Scalar.cmpi .ne (Scalar.extui (Scalar.cmpi .ne (BitVec.ofNat 32 (i 0).val) 0#32)) 0#32 = 1#1
/-- The fourth branch: the point writes a block. -/
abbrev Writes (i : grid0.Coords) : Prop := k0_cond4 i = 1#1

/-- Points 0 to 15 read. -/
theorem reads_iff : ∀ t : Fin cfg0.N, Reads (grid0.coords t) ↔ t.val < 16 :=
  (by decide +kernel : ∀ t : Fin grid0.N, Reads (grid0.coords t) ↔ t.val < 16)
/-- Point 0 starts the three running values. -/
theorem starts_iff : ∀ t : Fin cfg0.N, Starts (grid0.coords t) ↔ t.val = 0 :=
  (by decide +kernel : ∀ t : Fin grid0.N, Starts (grid0.coords t) ↔ t.val = 0)
/-- Every later point continues them. -/
theorem continues_iff : ∀ t : Fin cfg0.N, Continues (grid0.coords t) ↔ t.val ≠ 0 :=
  (by decide +kernel : ∀ t : Fin grid0.N, Continues (grid0.coords t) ↔ t.val ≠ 0)
/-- Points 16 to 31 write. -/
theorem writes_iff : ∀ t : Fin cfg0.N, Writes (grid0.coords t) ↔ 16 ≤ t.val :=
  (by decide +kernel : ∀ t : Fin grid0.N, Writes (grid0.coords t) ↔ 16 ≤ t.val)

/-- A reading point keeps its block in the rows from 256 times its number on. -/
theorem off1_eq : ∀ t : Fin cfg0.N, k0_off1 (grid0.coords t) = ![256 * t.val, 0] :=
  (by decide +kernel : ∀ t : Fin grid0.N, k0_off1 (grid0.coords t) = ![256 * t.val, 0])
/-- A writing point takes its block from the rows the reading point 16 before it filled. -/
theorem off2_eq : ∀ t : Fin cfg0.N, 16 ≤ t.val → k0_off2 (grid0.coords t) = ![256 * (t.val - 16), 0] :=
  (by decide +kernel : ∀ t : Fin grid0.N, 16 ≤ t.val → k0_off2 (grid0.coords t) = ![256 * (t.val - 16), 0])

/-- The output's buffer is left alone at the reading points. -/
theorem idle_iff : ∀ t : Fin cfg0.N, t.val < 16 → cfg0.idle 3 (cfg0.grid.coords t) = true :=
  (by decide +kernel : ∀ t : Fin cfg0.N, t.val < 16 → cfg0.idle 3 (cfg0.grid.coords t) = true)
/-- It is not left alone at the writing points. -/
theorem busy_iff : ∀ t : Fin cfg0.N, 16 ≤ t.val → cfg0.idle 3 (cfg0.grid.coords t) = false :=
  (by decide +kernel : ∀ t : Fin cfg0.N, 16 ≤ t.val → cfg0.idle 3 (cfg0.grid.coords t) = false)
/-- The output's buffer is written back at the writing points and at no other. -/
theorem flush_iff : ∀ t : Fin cfg0.N, (cfg0.win 3).flush t = true ↔ 16 ≤ t.val :=
  (by decide +kernel : ∀ t : Fin grid0.N, win0_3.flush t = true ↔ 16 ≤ t.val)

/-- The buffers a point works on: the logarithm, the two blocks read, the block written. -/
abbrev mLog (t : Fin cfg0.N) : Memref sig .tc .smem S1x1 .f32 := win0_0.stage (cfg0.slots t 0)
abbrev mZ (t : Fin cfg0.N) : Memref sig .tc .vmem S256x4096 .f32 := win0_1.stage (cfg0.slots t 1)
abbrev mA (t : Fin cfg0.N) : Memref sig .tc .vmem S256x4096 .f32 := win0_2.stage (cfg0.slots t 2)
abbrev mOut (t : Fin cfg0.N) : Memref sig .tc .vmem S256x4096 .f32 := win0_3.stage (cfg0.slots t 3)
/-- The buffers the kernel keeps from point to point: the whole matrix, its maximum, and the two sums. -/
abbrev mKeep : Memref sig .tc .vmem S4096x4096 .bf16 := Memref.whole cc0_scratch0
abbrev mMax : Memref sig .tc .smem S1x1 .f32 := Memref.whole cc0_scratch1
abbrev mSumZ : Memref sig .tc .smem S1x1 .f32 := Memref.whole cc0_scratch2
abbrev mSumA : Memref sig .tc .smem S1x1 .f32 := Memref.whole cc0_scratch3

/-- What the launch grants beside the windows: the four kept buffers at any contents, and the generator's state. -/
theorem grant_eq (c : Dev nD) :
    (Pipeline.ΦA spec0 c : sProp 𝕄)
      = iprop(iprop((∃ d, owns (c : Thread nD τ) mKeep fullShare d) ∗ (∃ d, owns (c : Thread nD τ) mMax fullShare d)
          ∗ (∃ d, owns (c : Thread nD τ) mSumZ fullShare d) ∗ (∃ d, owns (c : Thread nD τ) mSumA fullShare d))
        ∗ (∃ r, prngReg c r)) := by
  unfold Pipeline.ΦA; rw [scopedRest0_eq]; simp only [mKeep, mMax, mSumZ, mSumA, owns_whole]; try rfl

/-- The whole kept matrix with one block of 256 rows replaced: the rows from `o` on hold `b`. -/
def withRows (o : ℕ) (b : Vec F S256x4096 .bf16) (k : Vec F S4096x4096 .bf16) : Vec F S4096x4096 .bf16 :=
  fun y => if h : o ≤ (y 0).val ∧ (y 0).val < o + 256 then b (ix2 ⟨(y 0).val - o, by omega⟩ ⟨(y 1).val, (y 1).isLt⟩) else k y

/-- The 256 rows of the kept matrix from `o` on. -/
def rowsAt (o : ℕ) (h : o + 256 ≤ 4096) (k : Vec F S4096x4096 .bf16) : Vec F S256x4096 .bf16 :=
  fun y => k (ix2 ⟨o + (y 0).val, by have : (y 0).val < 256 := (y 0).isLt; omega⟩ ⟨(y 1).val, (y 1).isLt⟩)

/-- A store over a whole matrix leaves what was stored. -/
theorem read_store {κ : Kind} {sp : Space} {e : EltTy} {d : Fin 2 → ℕ} (v : View sig κ sp (⟨2, d⟩ : Shape) e)
    (f : v.ty.Contents (Elt F)) (inb : ∀ a : Fin 2, (![0, 0] : Fin 2 → ℕ) a + d a ≤ d a) (w : (⟨2, d⟩ : Shape).Idx → Elt F e) :
    v.read (Elt F) (v.writes (Elt F) f [⟨Rect.unit (s := ⟨2, d⟩) ![0, 0] d inb, w⟩]) = w :=
  funext fun y => View.read_writes_cons_rows_of_mem v f (d := d) (o := 0) inb w [] y y rfl (Nat.zero_add _).symm rfl

/-- A store of one block of 256 rows replaces those rows. -/
theorem read_store_rows {κ : Kind} {sp : Space} (v : View sig κ sp S4096x4096 .bf16) (f : v.ty.Contents (Elt F))
    {off : Fin 2 → ℕ} {o : ℕ} (ho : off = ![o, 0]) (inb : ∀ a, off a + S256x4096.size a ≤ S4096x4096.size a) (w : Vec F S256x4096 .bf16) :
    v.read (Elt F) (v.writes (Elt F) f [⟨Rect.unit (s := S4096x4096) off S256x4096.size inb, w⟩]) = withRows o w (v.read (Elt F) f) := by
  funext y
  unfold withRows
  split_ifs with h
  · exact View.read_writes_cons_rows_of_mem v f inb w [] y _ ho (by show (y 0).val = o + ((y 0).val - o); omega) rfl
  · rw [View.read_writes_cons_rows_of_not_mem v f inb w [] y ho (W := 256) rfl (by omega)]; rfl

/-- A load of 256 rows reads those rows. -/
theorem read_rows {κ : Kind} {sp : Space} (v : View sig κ sp S4096x4096 .bf16) (f : v.ty.Contents (Elt F))
    {off : Fin 2 → ℕ} {o : ℕ} (ho : off = ![o, 0]) (inb : ∀ a, off a + S256x4096.size a ≤ S4096x4096.size a) (hb : o + 256 ≤ 4096) :
    v.readAt (Elt F) (Rect.unit (s := S4096x4096) off S256x4096.size inb).toLoadRect f = rowsAt o hb (v.read (Elt F) f) := by
  subst ho
  funext y
  unfold rowsAt
  rw [View.readAt_apply]
  congr 1
  funext a
  apply Fin.ext
  fin_cases a
  · show o + 1 * (y 0).val = o + (y 0).val; omega
  · show 0 + 1 * (y 1).val = (y 1).val; omega

end Cert.KernelIdeal.Mask

end
-- ==== Proof.RunAdd.lean ====
/- What the body does at a reading point after the first. -/
module

public import proofs.«01_k».proof.Proof.Cases

@[expose] public section

set_option maxRecDepth 16384

noncomputable section

namespace Cert.KernelIdeal.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal.Gen

variable {F : FTy → Type} [FloatOps F]

local notation "𝕄" => MT nD τ sig Unit (Elt F) ℕ (UR sig nD τ) ℕ

set_option maxHeartbeats 1200000 in
/-- A reading point after the first: the block is kept in its rows, and each running value takes the block in. -/
theorem run_add (c : Dev nD) (i : grid0.Coords) (arg1 : Memref sig .tc .smem S1x1 .f32) (harg1 : arg1.IsWhole)
    (arg2 : Memref sig .tc .vmem S256x4096 .f32) (harg2 : arg2.IsWhole) (arg3 : Memref sig .tc .vmem S256x4096 .f32) (harg3 : arg3.IsWhole)
    (arg4 : Memref sig .tc .vmem S256x4096 .f32) (harg4 : arg4.IsWhole) (arg5 : Memref sig .tc .vmem S4096x4096 .bf16) (harg5 : arg5.IsWhole)
    (arg6 : Memref sig .tc .smem S1x1 .f32) (harg6 : arg6.IsWhole) (arg7 : Memref sig .tc .smem S1x1 .f32) (harg7 : arg7.IsWhole)
    (arg8 : Memref sig .tc .smem S1x1 .f32) (harg8 : arg8.IsWhole)
    (h1 : Reads i) (h2 : ¬ Starts i) (h3 : Continues i) (h4 : ¬ Writes i) (o : ℕ) (ho : k0_off1 i = ![o, 0])
    (x0 : Vec F S1x1 .f32) (x1 x2 x3 : Vec F S256x4096 .f32) (k : Vec F S4096x4096 .bf16) (a b d : F .f32)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare k
        ∗ owns (c : Thread nD τ) arg6 fullShare (fun _ => a)
        ∗ owns (c : Thread nD τ) arg7 fullShare (fun _ => b)
        ∗ owns (c : Thread nD τ) arg8 fullShare (fun _ => d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (withRows o (k0_pay1 x1) k)
            ∗ owns (c : Thread nD τ) arg6 fullShare (fun _ => k0_pay5 x1 a)
            ∗ owns (c : Thread nD τ) arg7 fullShare (fun _ => k0_pay6 x1 b)
            ∗ owns (c : Thread nD τ) arg8 fullShare (fun _ => k0_pay7 x2 d)) -∗ K ⟨⟩))
      ⊢ wp frame (wpE (defs₀ (F := F)) Variants.none c none) E
          (cc0__physics_mask_kernel i arg1 harg1 arg2 harg2 arg3 harg3 arg4 harg4 arg5 harg5 arg6 harg6 arg7 harg7 arg8 harg8) K := by
  simp only [cc0__physics_mask_kernel_eq_skeleton]; unfold cc0__physics_mask_kernel_skel
  unfold owns
  iintro ⟨⟨%f0, %hf0, H0⟩, ⟨%f1, %hf1, H1⟩, ⟨%f2, %hf2, H2⟩, ⟨%f3, %hf3, H3⟩, ⟨%g0, %hg0, G0⟩, ⟨%g1, %hg1, G1⟩, ⟨%g2, %hg2, G2⟩, ⟨%g3, %hg3, G3⟩, Hk⟩
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [G0]
  · iexists _; isplitr; swap; · iexact G0
    ipureintro
    rw [View.readAt_full, hf1, read_store_rows _ _ ho, hg0]
  isplitl [G1]
  · iexists _; isplitr; swap; · iexact G1
    ipureintro
    sl_unfold_words
    rw [View.readAt_full, hf1, View.readAt_full, hg1]
    exact read_store _ _ _ _
  isplitl [G2]
  · iexists _; isplitr; swap; · iexact G2
    ipureintro
    sl_unfold_words
    rw [View.readAt_full, hf1, View.readAt_full, hg2]
    exact read_store _ _ _ _
  iexists _; isplitr; swap; · iexact G3
  ipureintro
  sl_unfold_words
  rw [View.readAt_full, hf2, View.readAt_full, hg3]
  exact read_store _ _ _ _

end Cert.KernelIdeal.Mask

end
-- ==== Proof.RunStart.lean ====
/- What the body does at the first point. -/
module

public import proofs.«01_k».proof.Proof.Cases

@[expose] public section

set_option maxRecDepth 16384

noncomputable section

namespace Cert.KernelIdeal.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal.Gen

variable {F : FTy → Type} [FloatOps F]

local notation "𝕄" => MT nD τ sig Unit (Elt F) ℕ (UR sig nD τ) ℕ

set_option maxHeartbeats 1200000 in
/-- The first point: the block is kept in the first rows, and the three running values are the block's own. -/
theorem run_start (c : Dev nD) (i : grid0.Coords) (arg1 : Memref sig .tc .smem S1x1 .f32) (harg1 : arg1.IsWhole)
    (arg2 : Memref sig .tc .vmem S256x4096 .f32) (harg2 : arg2.IsWhole) (arg3 : Memref sig .tc .vmem S256x4096 .f32) (harg3 : arg3.IsWhole)
    (arg4 : Memref sig .tc .vmem S256x4096 .f32) (harg4 : arg4.IsWhole) (arg5 : Memref sig .tc .vmem S4096x4096 .bf16) (harg5 : arg5.IsWhole)
    (arg6 : Memref sig .tc .smem S1x1 .f32) (harg6 : arg6.IsWhole) (arg7 : Memref sig .tc .smem S1x1 .f32) (harg7 : arg7.IsWhole)
    (arg8 : Memref sig .tc .smem S1x1 .f32) (harg8 : arg8.IsWhole)
    (h1 : Reads i) (h2 : Starts i) (h3 : ¬ Continues i) (h4 : ¬ Writes i) (o : ℕ) (ho : k0_off1 i = ![o, 0])
    (x0 : Vec F S1x1 .f32) (x1 x2 x3 : Vec F S256x4096 .f32) (k : Vec F S4096x4096 .bf16)
    (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare k
        ∗ (∃ e, owns (c : Thread nD τ) arg6 fullShare e)
        ∗ (∃ e, owns (c : Thread nD τ) arg7 fullShare e)
        ∗ (∃ e, owns (c : Thread nD τ) arg8 fullShare e)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (withRows o (k0_pay1 x1) k)
            ∗ owns (c : Thread nD τ) arg6 fullShare (fun _ => k0_pay2 x1)
            ∗ owns (c : Thread nD τ) arg7 fullShare (fun _ => k0_pay3 x1)
            ∗ owns (c : Thread nD τ) arg8 fullShare (fun _ => k0_pay4 x2)) -∗ K ⟨⟩))
      ⊢ wp frame (wpE (defs₀ (F := F)) Variants.none c none) E
          (cc0__physics_mask_kernel i arg1 harg1 arg2 harg2 arg3 harg3 arg4 harg4 arg5 harg5 arg6 harg6 arg7 harg7 arg8 harg8) K := by
  simp only [cc0__physics_mask_kernel_eq_skeleton]; unfold cc0__physics_mask_kernel_skel
  unfold owns
  iintro ⟨⟨%f0, %hf0, H0⟩, ⟨%f1, %hf1, H1⟩, ⟨%f2, %hf2, H2⟩, ⟨%f3, %hf3, H3⟩, ⟨%g0, %hg0, G0⟩, ⟨%e1, %g1, -, G1⟩, ⟨%e2, %g2, -, G2⟩, ⟨%e3, %g3, -, G3⟩, Hk⟩
  sl_exec (disch := first | sl_exact h1 | sl_exact h2 | sl_exact h3 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [G0]
  · iexists _; isplitr; swap; · iexact G0
    ipureintro
    rw [View.readAt_full, hf1, read_store_rows _ _ ho, hg0]
  isplitl [G1]
  · iexists _; isplitr; swap; · iexact G1
    ipureintro
    sl_unfold_words
    rw [View.readAt_full, hf1]
    exact read_store _ _ _ _
  isplitl [G2]
  · iexists _; isplitr; swap; · iexact G2
    ipureintro
    sl_unfold_words
    rw [View.readAt_full, hf1]
    exact read_store _ _ _ _
  iexists _; isplitr; swap; · iexact G3
  ipureintro
  sl_unfold_words
  rw [View.readAt_full, hf2]
  exact read_store _ _ _ _

end Cert.KernelIdeal.Mask

end
-- ==== Proof.RunEmit.lean ====
/- What the body does at a writing point. -/
module

public import proofs.«01_k».proof.Proof.Cases

@[expose] public section

set_option maxRecDepth 16384

noncomputable section

namespace Cert.KernelIdeal.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal.Gen

variable {F : FTy → Type} [FloatOps F]

local notation "𝕄" => MT nD τ sig Unit (Elt F) ℕ (UR sig nD τ) ℕ

set_option maxHeartbeats 1200000 in
/-- A writing point: the output's buffer gets the kept rows times the coefficient, and nothing kept changes. -/
theorem run_emit (c : Dev nD) (i : grid0.Coords) (arg1 : Memref sig .tc .smem S1x1 .f32) (harg1 : arg1.IsWhole)
    (arg2 : Memref sig .tc .vmem S256x4096 .f32) (harg2 : arg2.IsWhole) (arg3 : Memref sig .tc .vmem S256x4096 .f32) (harg3 : arg3.IsWhole)
    (arg4 : Memref sig .tc .vmem S256x4096 .f32) (harg4 : arg4.IsWhole) (arg5 : Memref sig .tc .vmem S4096x4096 .bf16) (harg5 : arg5.IsWhole)
    (arg6 : Memref sig .tc .smem S1x1 .f32) (harg6 : arg6.IsWhole) (arg7 : Memref sig .tc .smem S1x1 .f32) (harg7 : arg7.IsWhole)
    (arg8 : Memref sig .tc .smem S1x1 .f32) (harg8 : arg8.IsWhole)
    (h1 : ¬ Reads i) (h4 : Writes i) (o : ℕ) (hb : o + 256 ≤ 4096) (ho : k0_off2 i = ![o, 0])
    (l : F .f32) (x1 x2 : Vec F S256x4096 .f32) (k : Vec F S4096x4096 .bf16) (a b d : F .f32)
    (E : Set ℕ) (K : PUnit → sProp 𝕄) :
    iprop(owns (c : Thread nD τ) arg1 fullShare (fun _ => l)
        ∗ owns (c : Thread nD τ) arg2 fullShare x1
        ∗ owns (c : Thread nD τ) arg3 fullShare x2
        ∗ (∃ e, owns (c : Thread nD τ) arg4 fullShare e)
        ∗ owns (c : Thread nD τ) arg5 fullShare k
        ∗ owns (c : Thread nD τ) arg6 fullShare (fun _ => a)
        ∗ owns (c : Thread nD τ) arg7 fullShare (fun _ => b)
        ∗ owns (c : Thread nD τ) arg8 fullShare (fun _ => d)
        ∗ (iprop(owns (c : Thread nD τ) arg1 fullShare (fun _ => l)
            ∗ owns (c : Thread nD τ) arg2 fullShare x1
            ∗ owns (c : Thread nD τ) arg3 fullShare x2
            ∗ owns (c : Thread nD τ) arg4 fullShare (k0_pay8 l a d b (rowsAt o hb k))
            ∗ owns (c : Thread nD τ) arg5 fullShare k
            ∗ owns (c : Thread nD τ) arg6 fullShare (fun _ => a)
            ∗ owns (c : Thread nD τ) arg7 fullShare (fun _ => b)
            ∗ owns (c : Thread nD τ) arg8 fullShare (fun _ => d)) -∗ K ⟨⟩))
      ⊢ wp frame (wpE (defs₀ (F := F)) Variants.none c none) E
          (cc0__physics_mask_kernel i arg1 harg1 arg2 harg2 arg3 harg3 arg4 harg4 arg5 harg5 arg6 harg6 arg7 harg7 arg8 harg8) K := by
  simp only [cc0__physics_mask_kernel_eq_skeleton]; unfold cc0__physics_mask_kernel_skel
  unfold owns
  iintro ⟨⟨%f0, %hf0, H0⟩, ⟨%f1, %hf1, H1⟩, ⟨%f2, %hf2, H2⟩, ⟨%e3, %f3, -, H3⟩, ⟨%g0, %hg0, G0⟩, ⟨%g1, %hg1, G1⟩, ⟨%g2, %hg2, G2⟩, ⟨%g3, %hg3, G3⟩, Hk⟩
  sl_exec (disch := first | sl_exact h1 | sl_exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    sl_unfold_words
    rw [View.readAt_full, hf0, View.readAt_full, hg1, View.readAt_full, hg3, View.readAt_full, hg2]
    refine (read_store _ _ _ _).trans ?_
    exact congrArg (k0_pay8 l a d b) ((read_rows arg5.view g0 ho (k0_off2_inb i h4) hb).trans (congrArg (rowsAt o hb) hg0))
  isplitl [G0]
  · iexists _; isplitr; · ipureintro; exact hg0
    iexact G0
  isplitl [G1]
  · iexists _; isplitr; · ipureintro; exact hg1
    iexact G1
  isplitl [G2]
  · iexists _; isplitr; · ipureintro; exact hg2
    iexact G2
  iexists _; isplitr; · ipureintro; exact hg3
  iexact G3

end Cert.KernelIdeal.Mask

end
-- ==== Proof.State.lean ====
/- What the mask kernel's kept buffers hold after each point, and what each writing point writes. -/
module

public import proofs.«01_k».proof.Proof.RunAdd
public import proofs.«01_k».proof.Proof.RunStart
public import proofs.«01_k».proof.Proof.RunEmit

@[expose] public section

set_option maxRecDepth 16384

noncomputable section

namespace Cert.KernelIdeal.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal.Gen
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Reading point `n` of the grid (any number past 15 stands for 15). -/
def point (n : ℕ) : Fin cfg0.N := ⟨min n 15, by rw [show cfg0.N = 32 from N_0]; omega⟩

theorem point_of_lt (t : Fin cfg0.N) (h : t.val < 16) : point t.val = t := Fin.ext (by show min t.val 15 = t.val; omega)

/-- The block of the impedance matrix that reading point `n` reads. -/
def zBlock (c : Dev nD) (n : ℕ) : Vec F S256x4096 .f32 := iblk m c 1 (point n)
/-- The block of the logits that reading point `n` reads. -/
def aBlock (c : Dev nD) (n : ℕ) : Vec F S256x4096 .f32 := iblk m c 2 (point n)

/-- The running maximum after reading point `n`. -/
def maxTo (c : Dev nD) : ℕ → F .f32
  | 0 => k0_pay2 (zBlock m c 0)
  | n + 1 => k0_pay5 (zBlock m c (n + 1)) (maxTo c n)
/-- The running sum of the matrix's magnitudes after reading point `n`. -/
def sumZTo (c : Dev nD) : ℕ → F .f32
  | 0 => k0_pay3 (zBlock m c 0)
  | n + 1 => k0_pay6 (zBlock m c (n + 1)) (sumZTo c n)
/-- The running sum of the logits' magnitudes after reading point `n`. -/
def sumATo (c : Dev nD) : ℕ → F .f32
  | 0 => k0_pay4 (aBlock m c 0)
  | n + 1 => k0_pay7 (aBlock m c (n + 1)) (sumATo c n)

/-- The kept matrix holds every block read before point `n`. -/
def Kept (c : Dev nD) (n : ℕ) (k : Vec F S4096x4096 .bf16) : Prop :=
  ∀ (j : ℕ) (hj : j < 16), j < n → rowsAt (256 * j) (by omega) k = k0_pay1 (zBlock m c j)

/-- Writing a block's rows keeps the rows of every other block and gives the block's own. -/
theorem rowsAt_withRows (i j : ℕ) (hj : 256 * j + 256 ≤ 4096) (b : Vec F S256x4096 .bf16) (k : Vec F S4096x4096 .bf16) :
    rowsAt (256 * j) hj (withRows (256 * i) b k) = if i = j then b else rowsAt (256 * j) hj k := by
  funext y
  have hy : (y 0).val < 256 := (y 0).isLt
  unfold rowsAt withRows
  by_cases h : i = j
  · subst h
    rw [if_pos rfl, dif_pos ⟨Nat.le_add_right _ _, Nat.add_lt_add_left hy _⟩]
    congr 1
    funext a
    apply Fin.ext
    fin_cases a
    · show 256 * i + (y 0).val - 256 * i = (y 0).val; omega
    · rfl
  · rw [if_neg h, dif_neg]
    rintro ⟨h1, h2⟩
    have h1 : 256 * i ≤ 256 * j + (y 0).val := h1
    have h2 : 256 * j + (y 0).val < 256 * i + 256 := h2
    omega

/-- A reading point adds its block to the kept matrix. -/
theorem Kept.add {c : Dev nD} {n : ℕ} {k : Vec F S4096x4096 .bf16} (h : Kept m c n k) :
    Kept m c (n + 1) (withRows (256 * n) (k0_pay1 (zBlock m c n)) k) := by
  intro j hj hjn
  rw [rowsAt_withRows]
  split_ifs with e
  · rw [e]
  · exact h j hj (by omega)

/-- Before the first point nothing is asked of the kept matrix. -/
theorem Kept.zero (c : Dev nD) (k : Vec F S4096x4096 .bf16) : Kept m c 0 k := fun _ _ h => absurd h (Nat.not_lt_zero _)

/-- Once every block is kept, nothing changes. -/
theorem Kept.later {c : Dev nD} {n n' : ℕ} {k : Vec F S4096x4096 .bf16} (h : Kept m c n k) (hn : 16 ≤ n) : Kept m c n' k :=
  fun j hj _ => h j hj (by omega)

/-- What point `t`, if it writes, writes: the block kept 16 points before, times the coefficient of the final maximum and sums. -/
def outBlock (c : Dev nD) (t : Fin cfg0.N) : Vec F S256x4096 .f32 :=
  k0_pay8 ((iblk m c 0 t : Vec F S1x1 .f32) (ix2 0 0)) (maxTo m c 15) (sumATo m c 15) (sumZTo m c 15) (k0_pay1 (zBlock m c (t.val - 16)))

/-- The kept buffers after point `n`. -/
def held (c : Dev nD) (n : ℕ) : sProp 𝕄 :=
  iprop(iprop((∃ k, ⌜Kept m c (n + 1) k⌝ ∗ owns (c : Thread nD τ) mKeep fullShare k)
      ∗ owns (c : Thread nD τ) mMax fullShare (fun _ => maxTo m c (min n 15))
      ∗ owns (c : Thread nD τ) mSumZ fullShare (fun _ => sumZTo m c (min n 15))
      ∗ owns (c : Thread nD τ) mSumA fullShare (fun _ => sumATo m c (min n 15)))
    ∗ (∃ r, prngReg c r))

/-- What holds of the kept buffers before point `n`: before the first, nothing. -/
def heldBefore (c : Dev nD) : ℕ → sProp 𝕄
  | 0 => Pipeline.ΦA spec0 c
  | n + 1 => held m c n

/-- What the launch is proved with: the arrays as found, each window's buffer after each point, the kept buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock m c t
  Φ t := heldBefore m c t.val
  q _ := fullShare
  owed _ := 0

theorem A_eq (c : Dev nD) (w : Fin cfg0.W) : (dats m 0 c).A w = V m c (Pipeline.arrRef spec0 w) := by dsimp only [dats]
theorem after_log (c : Dev nD) (t : Fin cfg0.N) : (dats m 0 c).after 0 t = iblk m c 0 t := by dsimp only [dats]
theorem after_z (c : Dev nD) (t : Fin cfg0.N) : (dats m 0 c).after 1 t = iblk m c 1 t := by dsimp only [dats]
theorem after_a (c : Dev nD) (t : Fin cfg0.N) : (dats m 0 c).after 2 t = iblk m c 2 t := by dsimp only [dats]
theorem after_out (c : Dev nD) (t : Fin cfg0.N) : (dats m 0 c).after 3 t = outBlock m c t := by dsimp only [dats]

theorem before_log (c : Dev nD) (t : Fin cfg0.N) (d) : (dats m 0 c).before 0 t d = iblk m c 0 t :=
  before0_0_of m (dats m 0 c) (A_eq m c 0) (after_log m c) t d
theorem before_z (c : Dev nD) (t : Fin cfg0.N) (d) : (dats m 0 c).before 1 t d = iblk m c 1 t :=
  before0_1_of m (dats m 0 c) (A_eq m c 1) (after_z m c) t d
theorem before_a (c : Dev nD) (t : Fin cfg0.N) (d) : (dats m 0 c).before 2 t d = iblk m c 2 t :=
  before0_2_of m (dats m 0 c) (A_eq m c 2) (after_a m c) t d

theorem leaves_log (c : Dev nD) (t : Fin cfg0.N) :
    (dats m 0 c).leavesExact 0 t = owns (c : Thread nD τ) (mLog t) fullShare (iblk m c 0 t) := by
  unfold Dat.leavesExact; rw [show cfg0.idle 0 (cfg0.grid.coords t) = false from rfl, after_log]
theorem leaves_z (c : Dev nD) (t : Fin cfg0.N) :
    (dats m 0 c).leavesExact 1 t = owns (c : Thread nD τ) (mZ t) fullShare (iblk m c 1 t) := by
  unfold Dat.leavesExact; rw [show cfg0.idle 1 (cfg0.grid.coords t) = false from rfl, after_z]
theorem leaves_a (c : Dev nD) (t : Fin cfg0.N) :
    (dats m 0 c).leavesExact 2 t = owns (c : Thread nD τ) (mA t) fullShare (iblk m c 2 t) := by
  unfold Dat.leavesExact; rw [show cfg0.idle 2 (cfg0.grid.coords t) = false from rfl, after_a]
/-- A reading point hands the output's buffer back as it found it. -/
theorem leaves_out_reading (c : Dev nD) (t : Fin cfg0.N) (h : t.val < 16) :
    (dats m 0 c).leavesExact 3 t = iprop(∃ d, owns (c : Thread nD τ) (mOut t) fullShare ((dats m 0 c).before 3 t d)) :=
  Dat.leavesExact_idle _ 3 t (idle_iff t h) (by
    cases hf : (cfg0.win 3).flush t
    · rfl
    · exact absurd ((flush_iff t).mp hf) (by omega))
/-- A writing point leaves its block there. -/
theorem leaves_out_writing (c : Dev nD) (t : Fin cfg0.N) (h : 16 ≤ t.val) :
    (dats m 0 c).leavesExact 3 t = owns (c : Thread nD τ) (mOut t) fullShare (outBlock m c t) := by
  unfold Dat.leavesExact; rw [busy_iff t h, after_out]

end Cert.KernelIdeal.Mask

end
-- ==== Proof.Body.lean ====
/- The kernel's body does at every point what the state of its buffers says, and so the whole program runs:
   it terminates without a fault, with the output array named, the arguments unchanged and every semaphore at zero. -/
module

public import proofs.«01_k».proof.Proof.State
public import Idealize.ShloMosaic.Lib.Claim

@[expose] public section

set_option maxRecDepth 16384

noncomputable section

namespace Cert.KernelIdeal.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal.Gen
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The logarithm's buffer is one word. -/
theorem log_word (c : Dev nD) (t : Fin cfg0.N) :
    (iblk m c 0 t : Vec F S1x1 .f32) = fun _ => (iblk m c 0 t : Vec F S1x1 .f32) (ix2 0 0) := by
  funext y
  congr 1
  funext a
  fin_cases a
  · exact Subsingleton.elim (α := Fin 1) _ _
  · exact Subsingleton.elim (α := Fin 1) _ _

/-- What the body finds at point `t`. -/
def found (c : Dev nD) (t : Fin cfg0.N) : sProp 𝕄 :=
  iprop((dats m 0 c).Φ t.castSucc ∗ (dats m 0 c).owesAt () t.castSucc
    ∗ (∃ d, owns (c : Thread nD τ) (mLog t) fullShare ((dats m 0 c).before 0 t d))
    ∗ (∃ d, owns (c : Thread nD τ) (mZ t) fullShare ((dats m 0 c).before 1 t d))
    ∗ (∃ d, owns (c : Thread nD τ) (mA t) fullShare ((dats m 0 c).before 2 t d))
    ∗ (∃ d, owns (c : Thread nD τ) (mOut t) fullShare ((dats m 0 c).before 3 t d)))

/-- What it leaves. -/
def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- The state before a point, by the point's number. -/
theorem state_before (c : Dev nD) (t : Fin cfg0.N) : (dats m 0 c).Φ t.castSucc = heldBefore m c t.val := by
  dsimp only [dats]; rfl
/-- The state after it. -/
theorem state_after (c : Dev nD) (t : Fin cfg0.N) : (dats m 0 c).Φ t.succ = held m c t.val := by
  dsimp only [dats]; rfl

set_option maxHeartbeats 4000000 in
/-- The body is right at every point. -/
theorem body_right (c : Dev nD) (t : Fin cfg0.N) :
    found m c t ⊢ wp frame (wpE (defs₀ (F := F)) Variants.none c none) Set.univ (bodyAt0 t) (fun _ => left m c t) := by
  unfold found left bodyAt0
  simp only [before_log, before_z, before_a]
  rw [show (dats m 0 c).owesAt () t.succ = (dats m 0 c).owesAt () t.castSucc from rfl, state_before, state_after,
    leaves_log, leaves_z, leaves_a]
  have hN := point_lt t
  by_cases h : t.val < 16
  · have hp := point_of_lt t h
    have hz : (iblk m c 1 t : Vec F S256x4096 .f32) = zBlock m c t.val := by unfold zBlock; rw [hp]
    have ha : (iblk m c 2 t : Vec F S256x4096 .f32) = aBlock m c t.val := by unfold aBlock; rw [hp]
    rw [leaves_out_reading m c t h]
    by_cases h0 : t.val = 0
    · rw [h0, show heldBefore m c 0 = Pipeline.ΦA spec0 c from rfl, grant_eq]
      unfold held
      iintro ⟨⟨⟨⟨%k, G0⟩, G1, G2, G3⟩, Hg⟩, Ho, ⟨%d0, H0⟩, ⟨%d1, H1⟩, ⟨%d2, H2⟩, ⟨%d3, H3⟩⟩
      iapply (run_start c (grid0.coords t) _ _ _ _ _ _ _ _ _ _ _ _ _ _ _ _ ((reads_iff t).mpr h) ((starts_iff t).mpr h0)
        (fun e => (continues_iff t).mp e h0) (fun e => absurd ((writes_iff t).mp e) (by omega)) (256 * t.val) (off1_eq t)
        (iblk m c 0 t) (iblk m c 1 t) (iblk m c 2 t) ((dats m 0 c).before 3 t d3) k Set.univ _)
      isplitl [H0]; · iexact H0
      isplitl [H1]; · iexact H1
      isplitl [H2]; · iexact H2
      isplitl [H3]; · iexact H3
      isplitl [G0]; · iexact G0
      isplitl [G1]; · iexact G1
      isplitl [G2]; · iexact G2
      isplitl [G3]; · iexact G3
      iintro ⟨H0, H1, H2, H3, G0, G1, G2, G3⟩
      rw [hz, ha, h0]
      isplitl [G0 G1 G2 G3 Hg]
      · isplitl [G0 G1 G2 G3]
        · isplitl [G0]
          · iexists _; isplitr
            · ipureintro; exact Kept.add m (Kept.zero m c k)
            iexact G0
          isplitl [G1]; · iexact G1
          isplitl [G2]; · iexact G2
          iexact G3
        iexact Hg
      isplitl [Ho]; · iexact Ho
      isplitl [H0]; · iexact H0
      isplitl [H1]; · iexact H1
      isplitl [H2]; · iexact H2
      iexists _; iexact H3
    · obtain ⟨n, hn⟩ : ∃ n, t.val = n + 1 := ⟨t.val - 1, by omega⟩
      rw [hn, show heldBefore m c (n + 1) = held m c n from rfl]
      unfold held
      rw [show min n 15 = n by omega, show min (n + 1) 15 = n + 1 by omega]
      iintro ⟨⟨⟨⟨%k, %hk, G0⟩, G1, G2, G3⟩, Hg⟩, Ho, ⟨%d0, H0⟩, ⟨%d1, H1⟩, ⟨%d2, H2⟩, ⟨%d3, H3⟩⟩
      iapply (run_add c (grid0.coords t) _ _ _ _ _ _ _ _ _ _ _ _ _ _ _ _ ((reads_iff t).mpr h) (fun e => h0 ((starts_iff t).mp e))
        ((continues_iff t).mpr h0) (fun e => absurd ((writes_iff t).mp e) (by omega)) (256 * t.val) (off1_eq t)
        (iblk m c 0 t) (iblk m c 1 t) (iblk m c 2 t) ((dats m 0 c).before 3 t d3) k (maxTo m c n) (sumZTo m c n) (sumATo m c n) Set.univ _)
      isplitl [H0]; · iexact H0
      isplitl [H1]; · iexact H1
      isplitl [H2]; · iexact H2
      isplitl [H3]; · iexact H3
      isplitl [G0]; · iexact G0
      isplitl [G1]; · iexact G1
      isplitl [G2]; · iexact G2
      isplitl [G3]; · iexact G3
      iintro ⟨H0, H1, H2, H3, G0, G1, G2, G3⟩
      rw [hz, ha, hn]
      isplitl [G0 G1 G2 G3 Hg]
      · isplitl [G0 G1 G2 G3]
        · isplitl [G0]
          · iexists _; isplitr
            · ipureintro; exact Kept.add m hk
            iexact G0
          isplitl [G1]; · iexact G1
          isplitl [G2]; · iexact G2
          iexact G3
        iexact Hg
      isplitl [Ho]; · iexact Ho
      isplitl [H0]; · iexact H0
      isplitl [H1]; · iexact H1
      isplitl [H2]; · iexact H2
      iexists _; iexact H3
  · obtain ⟨n, hn⟩ : ∃ n, t.val = n + 1 := ⟨t.val - 1, by omega⟩
    have h16 : 16 ≤ t.val := by omega
    rw [leaves_out_writing m c t h16, hn, show heldBefore m c (n + 1) = held m c n from rfl]
    unfold held
    rw [show min n 15 = 15 by omega, show min (n + 1) 15 = 15 by omega]
    iintro ⟨⟨⟨⟨%k, %hk, G0⟩, G1, G2, G3⟩, Hg⟩, Ho, ⟨%d0, H0⟩, ⟨%d1, H1⟩, ⟨%d2, H2⟩, ⟨%d3, H3⟩⟩
    rw [log_word m c t]
    iapply (run_emit c (grid0.coords t) _ _ _ _ _ _ _ _ _ _ _ _ _ _ _ _ (fun e => h ((reads_iff t).mp e)) ((writes_iff t).mpr h16)
      (256 * (t.val - 16)) (by omega) (off2_eq t h16) ((iblk m c 0 t : Vec F S1x1 .f32) (ix2 0 0)) (iblk m c 1 t) (iblk m c 2 t) k
      (maxTo m c 15) (sumZTo m c 15) (sumATo m c 15) Set.univ _)
    isplitl [H0]; · iexact H0
    isplitl [H1]; · iexact H1
    isplitl [H2]; · iexact H2
    isplitl [H3]; · iexists _; iexact H3
    isplitl [G0]; · iexact G0
    isplitl [G1]; · iexact G1
    isplitl [G2]; · iexact G2
    isplitl [G3]; · iexact G3
    iintro ⟨H0, H1, H2, H3, G0, G1, G2, G3⟩
    rw [hk (t.val - 16) (by omega) (by omega)]
    isplitl [G0 G1 G2 G3 Hg]
    · isplitl [G0 G1 G2 G3]
      · isplitl [G0]
        · iexists _; isplitr
          · ipureintro; exact hk.later m (by omega)
          iexact G0
        isplitl [G1]; · iexact G1
        isplitl [G2]; · iexact G2
        iexact G3
      iexact Hg
    isplitl [Ho]; · iexact Ho
    isplitl [H0]; · iexact H0
    isplitl [H1]; · iexact H1
    isplitl [H2]; · iexact H2
    iexact H3

/-- The body the pipeline runs at point `t` is the kernel's on the point's buffers. -/
theorem body_row (t : Fin cfg0.N) : defs₀ (F := F) .tc cfg0.body (cfg0.bodyArgs t (cfg0.slots t)) = bodyAt0 t := by
  unfold defs₀; rw [Defs.onTc_tc]

/-- So the launch's body condition holds. -/
theorem body_ok (c : Dev nD) : Pipeline.BodyObligation (dats (F := F) m 0 c) (defs₀ (F := F)) Variants.none () Set.univ := fun t => by
  rw [bigSep_W0, bigSep_W0, body_row]
  exact triple_restated (body_right m c t) rfl .rfl fun _ => .rfl

/-- The launch grants the state before the first point, -/
theorem grant_in (c : Dev nD) : Pipeline.ΦA spec0 c ⊢ (dats m 0 c).Φ 0 := by
  rw [show (dats m 0 c).Φ 0 = Pipeline.ΦA spec0 c from rfl]

/-- and takes the state after the last one back. -/
theorem grant_out (c : Dev nD) : (dats m 0 c).Φ (Fin.last cfg0.N) ⊢ Pipeline.ΦA spec0 c := by
  rw [show (dats m 0 c).Φ (Fin.last cfg0.N) = held m c 31 from rfl, grant_eq]
  unfold held
  iintro ⟨⟨⟨%k, -, G0⟩, G1, G2, G3⟩, Hg⟩
  isplitl [G0 G1 G2 G3]
  · isplitl [G0]; · iexists _; iexact G0
    isplitl [G1]; · iexists _; iexact G1
    isplitl [G2]; · iexists _; iexact G2
    iexists _; iexact G3
  iexact Hg

set_option backward.isDefEq.respectTransparency.types false in
/-- The program runs, every array ends as the windows' data say, and every semaphore ends at zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := grant_in m) (hout := grant_out m)

/-- The program runs and leaves its arguments as they were, every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The program runs and leaves the windows' data's array in the result, its arguments as they were. -/
theorem run_value : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 3, h.2.1 c⟩) (θ_run_and (run_all m ρ) (run_frame m ρ))

end Cert.KernelIdeal.Mask

end
-- ==== Proof.Printed.lean ====
/- The kernel as printed and the kernel printed for the extended reals are one program at every reading of the floats, no
   operation being replaced; so what is proved of the second at every reading holds of the first. -/
module

public import proofs.«01_k».proof.Defs
public import proofs.«01_k».proof.Proof.Gen.Kernel
public import proofs.«01_k».proof.Proof.Body

@[expose] public section

noncomputable section

namespace Cert.Mask

open Idealize.ShloMosaic Idealize.ShloMosaic.TcCoe Idealize.SL.Sem

variable {F : FTy → Type} [FloatOps F]

/-- Both host programs are one. -/
theorem main_eq : Cert.Kernel.main (F := F) = Cert.KernelIdeal.main (F := F) := by with_unfolding_all rfl

/-- Both tables run the same body at their one label. -/
theorem bodies_eq : Cert.Kernel.defs₀ (F := F) = Cert.KernelIdeal.defs₀ (F := F) := by
  unfold Cert.Kernel.defs₀ Cert.KernelIdeal.defs₀
  refine congrArg (Defs.onTc (nD := 1) (τ := Topo.v7x) (sig := Cert.Kernel.sig) (Val := Elt F) (Λ := Cert.Kernel.Λ₀)) ?_
  funext l x
  match l, x with
  | ⟨0, _⟩, (t, s) => with_unfolding_all rfl

/-- Both launches are one. -/
theorem launches_eq : Cert.Kernel.defs (F := F) = Cert.KernelIdeal.defs (F := F) := by
  unfold Cert.Kernel.defs Cert.KernelIdeal.defs
  exact congrArg (Pipeline.defs (Cert.Kernel.pcfgs (F := F))) bodies_eq

/-- The kernel as printed runs, leaves its arguments unchanged and every semaphore at zero. -/
theorem printed_frame : Cert.quiescent_Kernel := fun m ρ _ => by
  rw [launches_eq, main_eq]
  exact Cert.KernelIdeal.Mask.run_frame (F := Bits) m ρ

end Cert.Mask

end
-- ==== Proof.Blocks.lean ====
/- Which rows of the arrays the kernel's blocks are, and the whole output array: its rows are the blocks the
   writing points write. -/
module

public import proofs.«01_k».proof.Proof.State
public import Idealize.ShloMosaic.Lib.Pipeline.ValueKit
public import Idealize.ShloMosaic.Lib.Pipeline.ValueKit.Geometry

@[expose] public section

set_option maxRecDepth 16384

noncomputable section

namespace Cert.KernelIdeal.Mask

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Cert.KernelIdeal.Gen
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- The input windows' block is that of the point, the last one past point 15. -/
theorem z_index : ∀ t : Fin cfg0.N, win0_1.index t = ![min t.val 15, 0] := (by decide +kernel : ∀ t : Fin grid0.N, _)
theorem a_index : ∀ t : Fin cfg0.N, win0_2.index t = ![min t.val 15, 0] := (by decide +kernel : ∀ t : Fin grid0.N, _)
/-- The output window's block is that of the point 16 before. -/
theorem out_index : ∀ t : Fin cfg0.N, win0_3.index t = ![t.val - 16, 0] := (by decide +kernel : ∀ t : Fin grid0.N, _)

/-- Where an index of block `j` lies in the whole matrix. -/
def place (j : ℕ) (hj : j < 16) (y : S256x4096.Idx) : S4096x4096.Idx :=
  ValueIdx.ix2 ⟨256 * j + (y 0).val, by have : (y 0).val < 256 := (y 0).isLt; omega⟩ ⟨(y 1).val, (y 1).isLt⟩

/-- The block an index of the whole matrix lies in, and where in it. -/
def blockNo (i : S4096x4096.Idx) : ℕ := (i 0).val / 256
theorem blockNo_lt (i : S4096x4096.Idx) : blockNo i < 16 := by
  have : (i 0).val < 4096 := (i 0).isLt
  unfold blockNo; omega
def inBlock (i : S4096x4096.Idx) : S256x4096.Idx := ValueIdx.ix2 ⟨(i 0).val % 256, Nat.mod_lt _ (by decide)⟩ ⟨(i 1).val, (i 1).isLt⟩

theorem place_inBlock (i : S4096x4096.Idx) : place (blockNo i) (blockNo_lt i) (inBlock i) = i := by
  apply Shape.idx_ext₂
  · exact Nat.div_add_mod _ _
  · rfl
theorem blockNo_place (j : ℕ) (hj : j < 16) (y : S256x4096.Idx) : blockNo (place j hj y) = j := by
  have : (y 0).val < 256 := (y 0).isLt
  show (256 * j + (y 0).val) / 256 = j
  omega
theorem inBlock_place (j : ℕ) (hj : j < 16) (y : S256x4096.Idx) : inBlock (place j hj y) = y := by
  have : (y 0).val < 256 := (y 0).isLt
  apply Shape.idx_ext₂
  · show (256 * j + (y 0).val) % 256 = (y 0).val; omega
  · rfl

/-- Block `j` of the impedance matrix is its rows from `256 j` on. -/
theorem zBlock_apply (c : Dev nD) (j : ℕ) (hj : j < 16) (y : S256x4096.Idx) :
    zBlock m c j y = m ((c : Thread nD τ).loc main_arg0) (place j hj y) := by
  refine Eq.trans ?_ (congrFun (V_main_arg0 m c) (place j hj y))
  have hp : (point j).val = j := by show min j 15 = j; omega
  show V m c main_arg0 ((win0_1.blk (point j)).view.emb y) = V m c main_arg0 (place j hj y)
  congr 1
  apply Shape.idx_ext₂
  · blk_simp [z_index]
    show min (point j).val 15 * 256 + (y 0).val = 256 * j + (y 0).val
    omega
  · blk_simp [z_index]
    rfl

/-- Block `j` of the logits likewise. -/
theorem aBlock_apply (c : Dev nD) (j : ℕ) (hj : j < 16) (y : S256x4096.Idx) :
    aBlock m c j y = m ((c : Thread nD τ).loc main_arg1) (place j hj y) := by
  refine Eq.trans ?_ (congrFun (V_main_arg1 m c) (place j hj y))
  have hp : (point j).val = j := by show min j 15 = j; omega
  show V m c main_arg1 ((win0_2.blk (point j)).view.emb y) = V m c main_arg1 (place j hj y)
  congr 1
  apply Shape.idx_ext₂
  · blk_simp [a_index]
    show min (point j).val 15 * 256 + (y 0).val = 256 * j + (y 0).val
    omega
  · blk_simp [a_index]
    rfl

/-- The logarithm's word is the argument's. -/
theorem log_apply (c : Dev nD) (t : Fin cfg0.N) (x : S1x1.Idx) (i : S_.Idx) :
    (iblk m c 0 t : Vec F S1x1 .f32) x = m ((c : Thread nD τ).loc main_arg2) i := by
  show V m c main_v0 ((win0_0.blk t).view.emb x) = _
  have h : V m c main_v0 = shapeCast S1x1 (m ((c : Thread nD τ).loc main_arg2)) shapeCasts_S_S1x1 := by
    show StableHlo.after hostOps0 _ (Proc.devRef .tc main_v0) = _
    after_results
    rfl
  rw [h]
  unfold shapeCast
  congr 1
  exact funext fun a => a.elim0

/-- The whole output array, block by block. -/
def outArray (c : Dev nD) : S4096x4096.Idx → F .f32 := fun i =>
  k0_pay8 (m ((c : Thread nD τ).loc main_arg2) fun a => a.elim0) (maxTo m c 15) (sumATo m c 15) (sumZTo m c 15)
    (k0_pay1 (zBlock m c (blockNo i))) (inBlock i)

/-- The writing points' blocks cover the output array. -/
theorem out_covers (i : S4096x4096.Idx) : ∃ t : Fin cfg0.N, (cfg0.win 3).flush t = true ∧ i ∈ ((cfg0.win 3).blk t).view.set := by
  have hb := blockNo_lt i
  refine ⟨⟨blockNo i + 16, by rw [show cfg0.N = 32 from N_0]; omega⟩, (flush_iff _).mpr (Nat.le_add_left _ _), ?_⟩
  have h0 : (i 0).val < 4096 := (i 0).isLt
  have h1 : (i 1).val < 4096 := (i 1).isLt
  mem_blk [out_index]
  unfold blockNo
  refine ⟨⟨?_, ?_⟩, ?_, ?_⟩
  · show ((i 0).val / 256 + 16 - 16) * 256 ≤ (i 0).val; omega
  · show (i 0).val < ((i 0).val / 256 + 16 - 16) * 256 + 256; omega
  · show 0 * 4096 ≤ (i 1).val; omega
  · show (i 1).val < 0 * 4096 + 4096; omega

/-- What a writing point writes back is its block of the output array. -/
theorem flushed_out (c : Dev nD) (t : Fin cfg0.N) (hf : (cfg0.win 3).flush t = true) :
    (dats m 0 c).flushed 3 t = ((cfg0.win 3).blk t).view.read (Elt F) (outArray m c) := by
  have h16 := (flush_iff t).mp hf
  have hN := point_lt t
  have hj : t.val - 16 < 16 := by omega
  funext y
  show (dats m 0 c).after 3 t y = outArray m c ((win0_3.blk t).view.emb y)
  have he : (win0_3.blk t).view.emb y = place (t.val - 16) hj y := by
    apply Shape.idx_ext₂
    · blk_simp [out_index]
      show (t.val - 16) * 256 + (y 0).val = 256 * (t.val - 16) + (y 0).val
      omega
    · blk_simp [out_index]
      rfl
  rw [he, after_out]
  unfold outArray outBlock
  rw [blockNo_place, inBlock_place, log_apply m c t _ fun a => a.elim0]
  rfl

/-- So the output array ends as `outArray`. -/
theorem out_final (c : Dev nD) : (dats m 0 c).arrAt 3 cfg0.N = outArray m c :=
  (dats m 0 c).arrAt_eq_of_cover 3 (outArray m c) (flushed_out m c) out_covers

end Cert.KernelIdeal.Mask

end
-- ==== Proof.Equation.lean ====
/- The mask's arithmetic on the extended reals: the kernel takes one coefficient out of the whole matrix, the reference
   scales every entry and measures the scaled matrix, and the two agree entry by entry when the multiplier is positive. -/
module

public import Idealize.ShloMosaic.PureOps.Ideal
public import Idealize.ShloMosaic.PureOps.Ideal.Laws

@[expose] public section

noncomputable section

namespace Cert.Mask

open Idealize.ShloMosaic

/-- The number added to the maximum before dividing by it. -/
def eps : EReal := Ideal.ofBits .f32 0x322BCC77#32
/-- The least value a mean magnitude is taken at. -/
def least : EReal := Ideal.ofBits .f32 0x38D1B717#32
/-- The number of entries of a matrix. -/
def count : EReal := Ideal.ofBits .f32 0x4B800000#32
/-- One, as the kernel spells it. -/
def one : EReal := Ideal.ofBits .f32 0x3F800000#32

theorem eps_pos : ∃ r : ℝ, 0 < r ∧ eps = (r : EReal) := by
  refine ⟨11258999 / 2 ^ 50, by norm_num, ?_⟩
  unfold eps
  simp [Ideal.ofBits, Ideal.ieee, -EReal.coe_mul]; norm_num
theorem count_eq : count = ((16777216 : ℝ) : EReal) := by
  unfold count
  simp [Ideal.ofBits, Ideal.ieee, -EReal.coe_mul]; norm_num
theorem one_eq : one = 1 := by
  unfold one
  simp [Ideal.ofBits, Ideal.ieee, -EReal.coe_mul]; norm_num

theorem count_ne : count ≠ 0 := by
  rw [count_eq]; exact_mod_cast (by norm_num : (16777216 : ℝ) ≠ 0)

/-- Dividing by a number that is not zero is multiplying by its inverse. -/
theorem div_of_ne {x y : EReal} (h : y ≠ 0) : Ideal.div x y = x * y⁻¹ := if_neg h

/-- The magnitude of an extended real. -/
def mag (x : EReal) : EReal := max x (-x)

theorem mag_of_nonneg {x : EReal} (h : 0 ≤ x) : mag x = x :=
  max_eq_left ((EReal.neg_le_neg_iff.mpr h).trans (by rw [neg_zero]; exact h))
theorem mag_neg (x : EReal) : mag (-x) = mag x := by unfold mag; rw [neg_neg, max_comm]
theorem mag_of_nonpos {x : EReal} (h : x ≤ 0) : mag x = -x := by
  rw [← mag_neg]; exact mag_of_nonneg (by rw [← neg_zero]; exact EReal.neg_le_neg_iff.mpr h)
theorem mag_nonneg (x : EReal) : 0 ≤ mag x := by
  rcases le_total 0 x with h | h
  · rw [mag_of_nonneg h]; exact h
  · rw [mag_of_nonpos h, ← neg_zero]; exact EReal.neg_le_neg_iff.mpr h

/-- A nonnegative factor comes out of a magnitude. -/
theorem mag_mul_of_nonneg {x : EReal} (h : 0 ≤ x) (y : EReal) : mag (x * y) = x * mag y := by
  rcases le_total 0 y with hy | hy
  · rw [mag_of_nonneg hy, mag_of_nonneg (mul_nonneg h hy)]
  · have hn : 0 ≤ -y := by rw [← neg_zero]; exact EReal.neg_le_neg_iff.mpr hy
    rw [mag_of_nonpos hy, ← mag_neg, ← mul_neg, mag_of_nonneg (mul_nonneg h hn)]
/-- The magnitude of a product. -/
theorem mag_mul (x y : EReal) : mag (x * y) = mag x * mag y := by
  rcases le_total 0 x with h | h
  · rw [mag_of_nonneg h, mag_mul_of_nonneg h]
  · have hn : 0 ≤ -x := by rw [← neg_zero]; exact EReal.neg_le_neg_iff.mpr h
    rw [mag_of_nonpos h, ← mag_neg (x * y), ← EReal.neg_mul, mag_mul_of_nonneg hn]
/-- The magnitude of an inverse. -/
theorem mag_inv (x : EReal) : (mag x)⁻¹ = mag x⁻¹ := by
  rcases le_total 0 x with h | h
  · rw [mag_of_nonneg h, mag_of_nonneg (EReal.inv_nonneg_of_nonneg h)]
  · rw [mag_of_nonpos h, mag_of_nonpos (EReal.inv_nonpos_of_nonpos h), EReal.inv_neg]
theorem mag_ne {x : EReal} (h : x ≠ 0) : mag x ≠ 0 := by
  rcases le_total 0 x with hx | hx
  · rw [mag_of_nonneg hx]; exact h
  · rw [mag_of_nonpos hx]; exact fun e => h (by rw [← neg_neg x, e, neg_zero])

/-- A factor comes out of a sum of nonnegative terms. -/
theorem mul_sum {ι : Type*} (s : Finset ι) (a : EReal) (f : ι → EReal) (hf : ∀ i, 0 ≤ f i) :
    ∑ i ∈ s, a * f i = a * ∑ i ∈ s, f i := by
  classical
  induction s using Finset.induction_on with
  | empty => simp
  | insert i s hi ih =>
    rw [Finset.sum_insert hi, Finset.sum_insert hi, ih,
      EReal.left_distrib_of_nonneg (hf i) (Finset.sum_nonneg fun j _ => hf j)]

/-- The one coefficient the kernel multiplies every entry by: `g` the multiplier, `top` the matrix's maximum, `sa` and
    `sz` the sums of the logits' and the matrix's magnitudes. -/
def coefficient (g top sa sz : EReal) : EReal :=
  Ideal.div (0 - g) (top + eps) * Ideal.div (max (sa * Ideal.div one count) least)
    (max (Ideal.div (g * sz * Ideal.div one count) (mag (top + eps))) least)

/-- An entry of the reference's unscaled mask. -/
def raw (g top z : EReal) : EReal := -g * Ideal.div z (top + eps)

/-- The reference's mask, `sm` the sum of the unscaled mask's magnitudes. -/
def scaled (g top sa sm z : EReal) : EReal :=
  raw g top z * Ideal.div (max (Ideal.div sa count) least) (max (Ideal.div sm count) least)

variable {ι : Type*} [Fintype ι]

/-- Where the shifted maximum is not zero, the two agree because every division is a multiplication. -/
theorem agree_of_ne {g top sa : EReal} (z : ι → EReal) (hg : 0 ≤ g) (h : top + eps ≠ 0) (i : ι) :
    coefficient g top sa (∑ j, mag (z j)) * z i = scaled g top sa (∑ j, mag (raw g top (z j))) (z i) := by
  have hsum : ∑ j, mag (raw g top (z j)) = (g * mag (top + eps)⁻¹) * ∑ j, mag (z j) := by
    rw [← mul_sum _ _ _ fun j => mag_nonneg (z j)]
    refine Finset.sum_congr rfl fun j _ => ?_
    unfold raw
    rw [div_of_ne h, EReal.neg_mul, mag_neg, mag_mul_of_nonneg hg, mag_mul]
    rw [mul_assoc g, mul_comm (mag (z j))]
  unfold coefficient scaled
  rw [hsum]
  unfold raw
  rw [div_of_ne h, div_of_ne h, div_of_ne (mag_ne h), div_of_ne count_ne, div_of_ne count_ne, div_of_ne count_ne, one_eq, one_mul,
    zero_sub, mag_inv]
  rw [show g * (∑ j, mag (z j)) * count⁻¹ * mag (top + eps)⁻¹ = g * mag (top + eps)⁻¹ * (∑ j, mag (z j)) * count⁻¹ by
    rw [mul_assoc, mul_comm count⁻¹, ← mul_assoc, mul_assoc g, mul_comm (∑ j, mag (z j)), ← mul_assoc]]
  rw [mul_right_comm, mul_assoc (-g), mul_comm (top + eps)⁻¹ (z i)]

/-- Where it is zero, both are zero: the reference's sum of magnitudes and the kernel's quotient are both infinite. -/
theorem agree_of_eq {g top sa : EReal} (z : ι → EReal) (hg : 0 < g) (hz : ∀ j, z j ≤ top) (h : top + eps = 0) (i : ι) :
    coefficient g top sa (∑ j, mag (z j)) * z i = scaled g top sa (∑ j, mag (raw g top (z j))) (z i) := by
  obtain ⟨r, hr, he⟩ := eps_pos
  have htop : top < 0 := by
    rcases lt_or_ge top 0 with h0 | h0
    · exact h0
    · exact absurd h (ne_of_gt (lt_of_lt_of_le (by rw [he]; exact_mod_cast hr) (le_add_of_nonneg_left h0)))
  have hneg (j : ι) : z j < 0 := lt_of_le_of_lt (hz j) htop
  have hone (j : ι) : raw g top (z j) = ⊤ := by
    unfold raw Ideal.div
    rw [if_pos h, if_neg (not_lt.mpr (hneg j).le), EReal.neg_mul, EReal.mul_bot_of_pos hg]; rfl
  have hinf : ∑ j, mag (raw g top (z j)) = ⊤ := by
    refine top_le_iff.mp ?_
    refine le_trans ?_ (Finset.single_le_sum (f := fun j => mag (raw g top (z j))) (fun j _ => mag_nonneg _) (Finset.mem_univ i))
    show ⊤ ≤ mag (raw g top (z i))
    rw [hone i]; exact le_max_left _ _
  have hpos : 0 < ∑ j, mag (z j) := by
    refine lt_of_lt_of_le ?_ (Finset.single_le_sum (f := fun j => mag (z j)) (fun j _ => mag_nonneg _) (Finset.mem_univ i))
    show 0 < mag (z i)
    rw [mag_of_nonpos (hneg i).le, ← neg_zero]
    exact EReal.neg_lt_neg_iff.mpr (hneg i)
  have hcount : (0 : EReal) < count⁻¹ := by
    rw [count_eq, ← EReal.coe_inv]; exact_mod_cast (by norm_num : (0 : ℝ) < (16777216 : ℝ)⁻¹)
  have hdiv : Ideal.div (⊤ : EReal) count = ⊤ := by rw [div_of_ne count_ne, EReal.top_mul_of_pos hcount]
  have htopdiv (x : EReal) : Ideal.div x ⊤ = 0 := by rw [div_of_ne EReal.top_ne_zero, EReal.inv_top, mul_zero]
  have hk : Ideal.div (g * (∑ j, mag (z j)) * Ideal.div one count) (mag (top + eps)) = ⊤ := by
    rw [h, mag_of_nonneg le_rfl, div_of_ne count_ne, one_eq, one_mul]
    unfold Ideal.div
    rw [if_pos rfl, if_pos (EReal.mul_pos (EReal.mul_pos hg hpos) hcount)]
  unfold coefficient scaled
  rw [hinf, hdiv, hk, max_eq_left le_top, htopdiv, htopdiv, mul_zero, mul_zero, zero_mul]

/-- The kernel's coefficient times an entry is the reference's mask at that entry. -/
theorem agree {g top sa : EReal} (z : ι → EReal) (hg : 0 < g) (hz : ∀ j, z j ≤ top) (i : ι) :
    coefficient g top sa (∑ j, mag (z j)) * z i = scaled g top sa (∑ j, mag (raw g top (z j))) (z i) := by
  by_cases h : top + eps = 0
  · exact agree_of_eq z hg hz h i
  · exact agree_of_ne z hg.le h i

/-- The exponential of a logarithm above minus infinity is positive. -/
theorem exp_pos {l : EReal} (h : ⊥ < l) : 0 < Ideal.exp l := by
  induction l with
  | bot => exact absurd h (lt_irrefl _)
  | coe r => rw [Ideal.exp_coe]; exact_mod_cast Real.exp_pos r
  | top => rw [Ideal.exp_top]; exact EReal.zero_lt_top

end Cert.Mask

end
-- ==== Proof.Totals.lean ====
/- The kernel's running maximum and sums, read on the extended reals after the last block: the largest entry of the
   whole matrix, and the sums of the whole matrices' magnitudes; and the output array at an index. -/
module

public import proofs.«01_k».proof.Proof.Blocks
public import proofs.«01_k».proof.Proof.Equation

@[expose] public section

set_option maxRecDepth 16384

noncomputable section

namespace Cert.KernelIdeal.Mask

open Idealize.ShloMosaic Idealize.ShloMosaic.TcCoe
open Cert.KernelIdeal.Gen Cert.Mask

variable (m : (ℓ : Loc nD τ sig) → Buf (Elt Ideal) ℓ)

/-- The impedance matrix, the logits and the logarithm as launched. -/
abbrev zArg (c : Dev nD) : S4096x4096.Idx → EReal := m ((c : Thread nD τ).loc main_arg0)
abbrev aArg (c : Dev nD) : S4096x4096.Idx → EReal := m ((c : Thread nD τ).loc main_arg1)
abbrev logArg (c : Dev nD) : EReal := m ((c : Thread nD τ).loc main_arg2) fun a => a.elim0

/-- The pattern of minus infinity. -/
theorem bottom : Ideal.ofBits .f32 0xFF800000#32 = ⊥ := by simp [Ideal.ofBits, Ideal.ieee]

/-- A block's maximum is bounded by what bounds its entries. -/
theorem blockMax_le (x : Vec Ideal S256x4096 .f32) (b : EReal) : k0_pay2 x ≤ b ↔ ∀ y, x y ≤ b := by
  unfold k0_pay2
  dsimp only [extractAt]
  unfold shapeCast
  refine (iff_of_eq (congrArg (fun u : EReal => u ≤ b) (multiReduction_maximumf_eq_fold _ _ _ _ _ _))).trans ?_
  show Finset.fold max _ _ _ ≤ b ↔ _
  rw [Finset.fold_max_le, Ideal.ofBits_def, bottom]
  constructor
  · intro h y
    have := h.2 ((Shape.reshapeEquiv shapeCasts_S256x4096_S1x256x4096).symm y) (Finset.mem_filter.mpr ⟨Finset.mem_univ _, by
      funext a
      fin_cases a
      exact Subsingleton.elim (α := Fin 1) _ _⟩)
    simpa using this
  · exact fun h => ⟨bot_le, fun i _ => h _⟩

/-- A block's sum of magnitudes. -/
theorem blockSum (x : Vec Ideal S256x4096 .f32) : k0_pay3 x = ∑ y : S256x4096.Idx, mag (x y) := by
  unfold k0_pay3
  dsimp only [extractAt]
  unfold shapeCast
  refine (Ideal.multiReduction_add_total _ _ _ (fun b => by fin_cases b; rfl) _ _ _).trans ?_
  exact Equiv.sum_comp (Shape.reshapeEquiv shapeCasts_S256x4096_S1x256x4096) fun y => mag (x y)
theorem blockSum' (x : Vec Ideal S256x4096 .f32) : k0_pay4 x = ∑ y : S256x4096.Idx, mag (x y) := blockSum x

/-- The running maximum is bounded by what bounds the entries of the blocks read. -/
theorem maxTo_le (c : Dev nD) (b : EReal) : ∀ n, maxTo m c n ≤ b ↔ ∀ j ≤ n, ∀ y, zBlock m c j y ≤ b
  | 0 => by
    unfold maxTo
    rw [blockMax_le]
    exact ⟨fun h j hj => by rw [Nat.le_zero.mp hj]; exact h, fun h => h 0 le_rfl⟩
  | n + 1 => by
    unfold maxTo
    show max (maxTo m c n) (k0_pay2 (zBlock m c (n + 1))) ≤ b ↔ _
    rw [max_le_iff, maxTo_le c b n, blockMax_le]
    refine ⟨fun h j hj => ?_, fun h => ⟨fun j hj => h j (by omega), h _ le_rfl⟩⟩
    rcases Nat.lt_or_ge n j with e | e
    · rw [show j = n + 1 by omega]; exact h.2
    · exact h.1 j e

/-- The running sums are the sums over the blocks read. -/
theorem sumZTo_eq (c : Dev nD) : ∀ n, sumZTo m c n = ∑ j ∈ Finset.range (n + 1), ∑ y, mag (zBlock m c j y)
  | 0 => by unfold sumZTo; rw [blockSum, Finset.sum_range_one]
  | n + 1 => by
    unfold sumZTo
    rw [Finset.sum_range_succ, ← sumZTo_eq c n, ← blockSum]; rfl
theorem sumATo_eq (c : Dev nD) : ∀ n, sumATo m c n = ∑ j ∈ Finset.range (n + 1), ∑ y, mag (aBlock m c j y)
  | 0 => by unfold sumATo; rw [blockSum', Finset.sum_range_one]
  | n + 1 => by
    unfold sumATo
    rw [Finset.sum_range_succ, ← sumATo_eq c n, ← blockSum']; rfl

/-- The matrix's indices are its sixteen blocks' indices. -/
def byBlock : Fin 16 × S256x4096.Idx ≃ S4096x4096.Idx where
  toFun p := place p.1.val p.1.isLt p.2
  invFun i := (⟨blockNo i, blockNo_lt i⟩, inBlock i)
  left_inv p := Prod.ext (Fin.ext (blockNo_place _ _ _)) (inBlock_place _ _ _)
  right_inv i := place_inBlock i

/-- A sum over the sixteen blocks is the sum over the matrix. -/
theorem sum_blocks (f : ℕ → S256x4096.Idx → EReal) (g : S4096x4096.Idx → EReal) (h : ∀ j (hj : j < 16) y, f j y = g (place j hj y)) :
    ∑ j ∈ Finset.range 16, ∑ y, f j y = ∑ i, g i := by
  rw [Finset.sum_range, ← Equiv.sum_comp byBlock g, Fintype.sum_prod_type]
  exact Finset.sum_congr rfl fun j _ => Finset.sum_congr rfl fun y _ => h j.val j.isLt y

/-- After the last block: the maximum of the matrix, by its upper bounds, -/
theorem max_all (c : Dev nD) (b : EReal) : maxTo m c 15 ≤ b ↔ ∀ i, zArg m c i ≤ b := by
  rw [maxTo_le]
  constructor
  · intro h i
    have := h (blockNo i) (by have := blockNo_lt i; omega) (inBlock i)
    rwa [zBlock_apply m c _ (blockNo_lt i), place_inBlock] at this
  · intro h j hj y
    rw [zBlock_apply m c j (by omega)]; exact h _
/-- the sum of its magnitudes, -/
theorem sumZ_all (c : Dev nD) : sumZTo m c 15 = ∑ i, mag (zArg m c i) := by
  rw [sumZTo_eq]
  exact sum_blocks _ (fun i => mag (zArg m c i)) fun j hj y => congrArg mag (zBlock_apply m c j hj y)
/-- and of the logits'. -/
theorem sumA_all (c : Dev nD) : sumATo m c 15 = ∑ i, mag (aArg m c i) := by
  rw [sumATo_eq]
  exact sum_blocks _ (fun i => mag (aArg m c i)) fun j hj y => congrArg mag (aBlock_apply m c j hj y)

/-- The written block at an index is the coefficient times the kept block there. -/
theorem written_apply (l a s d : EReal) (v : Vec Ideal S256x4096 .f32) (y : S256x4096.Idx) :
    k0_pay8 (F := Ideal) l a s d (k0_pay1 v) y = coefficient (Ideal.exp l) a s d * v y := by
  unfold k0_pay8 k0_pay1
  dsimp only
  rw [shapeCast_self]
  show v y * _ = _
  rw [mul_comm]
  unfold coefficient eps least Cert.Mask.count one mag
  show (Ideal.div (Ideal.ofBits .f32 0x00000000#32 - Ideal.exp l) _ * _) * _ = _
  rw [show Ideal.ofBits .f32 0x00000000#32 = 0 by simp [Ideal.ofBits, Ideal.ieee]]
  rfl

/-- The output array at an index. -/
theorem outArray_apply (c : Dev nD) (i : S4096x4096.Idx) :
    outArray m c i = coefficient (Ideal.exp (logArg m c)) (maxTo m c 15) (∑ j, mag (aArg m c j)) (∑ j, mag (zArg m c j)) * zArg m c i := by
  unfold outArray
  rw [written_apply, sumZ_all, sumA_all, zBlock_apply m c _ (blockNo_lt i), place_inBlock]

end Cert.KernelIdeal.Mask

end
-- ==== Proof.Reference.lean ====
/- What the reference computes, read on the extended reals at an index. -/
module

public import proofs.«01_k».proof.Proof.Gen.ReferenceIdeal.Read
public import proofs.«01_k».proof.Proof.Equation

@[expose] public section

noncomputable section

namespace Cert.ReferenceIdeal.Mask

open Idealize.ShloMosaic Idealize.ShloMosaic.TcCoe
open Cert.ReferenceIdeal Cert.ReferenceIdeal.Gen Cert.ReferenceIdeal.Read Cert.Mask

variable (z a : (⟨S4096x4096, .f32⟩ : BufTy).Contents (Elt Ideal)) (l : (⟨S_, .f32⟩ : BufTy).Contents (Elt Ideal))

/-- The one index of a number's array. -/
abbrev only : S_.Idx := fun a => a.elim0

theorem only_eq (i : S_.Idx) : i = only := funext fun a => a.elim0

theorem zero_word : Ideal.ofBits .f32 0x00000000#32 = 0 := by simp [Ideal.ofBits, Ideal.ieee]

/-- The matrix's maximum as the reference takes it, by its upper bounds. -/
theorem top_le (b : EReal) : val_main_v1 (F := Ideal) z only ≤ b ↔ ∀ i, z i ≤ b := by
  unfold val_main_v1
  rw [Host.reduce_eq_fold]
  show Finset.fold max _ _ _ ≤ b ↔ _
  rw [Finset.fold_max_le]
  refine ⟨fun h i => h.2 i (Finset.mem_filter.mpr ⟨Finset.mem_univ _, only_eq _⟩), fun h => ⟨?_, fun i _ => h i⟩⟩
  rw [val_main_cst_apply, Ideal.ofBits_def, show Ideal.ofBits .f32 0xFF800000#32 = ⊥ by simp [Ideal.ofBits, Ideal.ieee]]
  exact bot_le

/-- The unscaled mask at an index. -/
theorem raw_apply (i : S4096x4096.Idx) :
    val_main_v7 (F := Ideal) z l i = raw (Ideal.exp (l only)) (val_main_v1 (F := Ideal) z only) (z i) := by
  rw [val_main_v7_apply, val_main_v6_apply, val_main_v5_apply, val_main_v0_apply, val_main_v4_apply, val_main_v3_apply,
    val_main_v2_apply, val_main_cst_0_apply]
  rfl

/-- The sum of the logits' magnitudes. -/
theorem sumA (i : S_.Idx) : val_main_v9 (F := Ideal) a i = ∑ j, mag (a j) := by
  rw [val_main_v9_apply, val_main_cst_1_apply, Ideal.ofBits_def, zero_word, zero_add]
  rfl

/-- The sum of the unscaled mask's magnitudes. -/
theorem sumM (i : S_.Idx) : val_main_v13 (F := Ideal) z l i
    = ∑ j, mag (raw (Ideal.exp (l only)) (val_main_v1 (F := Ideal) z only) (z j)) := by
  rw [val_main_v13_apply, val_main_cst_4_apply, Ideal.ofBits_def, zero_word, zero_add]
  exact Finset.sum_congr rfl fun j _ => congrArg mag (raw_apply z l j)

/-- The reference's result at an index. -/
theorem result_apply (i : S4096x4096.Idx) : val_main_v18 (F := Ideal) z a l i
    = scaled (Ideal.exp (l only)) (val_main_v1 (F := Ideal) z only) (∑ j, mag (a j))
        (∑ j, mag (raw (Ideal.exp (l only)) (val_main_v1 (F := Ideal) z only) (z j))) (z i) := by
  rw [val_main_v18_apply, raw_apply, val_main_v17_apply, val_main_v16_apply, val_main_v11_apply, val_main_v10_apply, val_main_v15_apply,
    val_main_v14_apply, sumA, sumM, val_main_cst_2_apply, val_main_cst_3_apply, val_main_cst_5_apply, val_main_cst_6_apply]
  rfl

end Cert.ReferenceIdeal.Mask

end
-- ==== Proof.Agreement.lean ====
/- The kernel's output array is the reference's result, where the logarithm of the multiplier is above minus infinity. -/
module

public import proofs.«01_k».proof.Defs
public import proofs.«01_k».proof.Proof.Totals
public import proofs.«01_k».proof.Proof.Reference

@[expose] public section

noncomputable section

namespace Cert.Mask

open Idealize.ShloMosaic Idealize.ShloMosaic.TcCoe
open Cert.KernelIdeal Cert.KernelIdeal.Mask

variable (m : (ℓ : Loc nD τ sig) → Buf (Elt Ideal) ℓ)

instance gamma_facts : Cert.Pre_gamma_positive.Facts := ⟨⟩

/-- What the precondition says: the logarithm is above minus infinity. -/
theorem log_above (h : Cert.Pre_KernelIdeal_gamma_positive m) (c : Dev nD) : ⊥ < logArg m c := by
  have e := congrFun (h c) fun a => a.elim0
  have e : Ideal.cmp .ogt (logArg m c) (Ideal.ofBits .f32 0xFF800000#32) = 1#1 := e
  rw [bottom] at e
  by_contra hn
  rw [show logArg m c = ⊥ from not_bot_lt_iff.mp hn] at e
  simp [Ideal.cmp] at e

/-- The reference's maximum of the kernel's matrix is the kernel's. -/
theorem top_eq (c : Dev nD) :
    Cert.ReferenceIdeal.Read.val_main_v1 (F := Ideal) (zArg m c) Cert.ReferenceIdeal.Mask.only = maxTo m c 15 :=
  eq_of_forall_ge_iff fun b => (Cert.ReferenceIdeal.Mask.top_le (zArg m c) b).trans (max_all m c b).symm

/-- The two arrays are one. -/
theorem arrays_eq (h : Cert.Pre_KernelIdeal_gamma_positive m) (c : Dev nD) :
    Cert.ReferenceIdeal.Read.val_main_v18 (F := Ideal) (zArg m c) (aArg m c) (m ((c : Thread nD τ).loc main_arg2)) = outArray m c := by
  funext i
  refine (Cert.ReferenceIdeal.Mask.result_apply (zArg m c) (aArg m c) (m ((c : Thread nD τ).loc main_arg2)) i).trans ?_
  rw [top_eq, outArray_apply]
  exact (agree (zArg m c) (exp_pos (log_above m h c)) ((max_all m c _).mp le_rfl) i).symm

end Cert.Mask

end
-- ==== Proof.lean ====
/- The mask kernel's certificate: the programs' frames, and the kernel's result equal to the reference's on the extended reals. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Body
public import proofs.«01_k».proof.Proof.Printed
public import proofs.«01_k».proof.Proof.Agreement
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel on the extended reals runs and leaves its arguments unchanged. -/
theorem ideal_frame : Cert.quiescent_KernelIdeal := fun m ρ _ => Cert.KernelIdeal.Mask.run_frame m ρ

/-- So does the reference. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem equal : Cert.algebraic_KernelIdeal_ReferenceIdeal_pre_gamma_positive := by
  intro m ρ m' ρ' hpre hargs
  refine ⟨fun c => Cert.KernelIdeal.Mask.outArray m c, ?_, ?_⟩
  · exact (θ_run Cert.KernelIdeal.defs _ _).mono
      (fun _ h c => ⟨(h c).1.trans (Cert.KernelIdeal.Mask.out_final m c), (h c).2⟩) (Cert.KernelIdeal.Mask.run_value m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v18_eq _ _ _).trans ?_
    rw [(hargs c).1, (hargs c).2.1, (hargs c).2.2]
    exact Cert.Mask.arrays_eq m hpre c

/-- Every claim. -/
theorem claim : Cert.Claim :=
  ⟨Cert.Kernel.Gen.facts, Cert.KernelIdeal.Gen.facts, Cert.ReferenceIdeal.Gen.facts, Cert.Mask.gamma_facts,
    Cert.Mask.printed_frame, ideal_frame, fun m ρ _ => ideal_frame m ρ True.intro, reference_frame, fun m ρ _ => reference_frame m ρ True.intro, trivial, equal⟩

end Cert.Proof

end
